-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S5 : Shape := ⟨1, ![5]⟩
abbrev S10x5 : Shape := ⟨2, ![10, 5]⟩
abbrev S5x4 : Shape := ⟨2, ![5, 4]⟩
abbrev S_ : Shape := ⟨0, ![]⟩
abbrev S1x5 : Shape := ⟨2, ![1, 5]⟩

abbrev nBuf : Table → Nat
  | .hbm => 4
  | .shared => 1
  | _ => 0

abbrev bufTy : (tb : Table) → Fin (nBuf tb) → BufTy
  | .hbm, ⟨0, _⟩ => ⟨S5, .f32⟩
  | .hbm, ⟨1, _⟩ => ⟨S10x5, .f32⟩
  | .hbm, ⟨2, _⟩ => ⟨S5x4, .f32⟩
  | .hbm, ⟨3, _⟩ => ⟨S5, .f32⟩
  | .shared, ⟨0, _⟩ => ⟨S10x5, .f32⟩
  | _, _ => ⟨S5, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scs : Ref sig .scScalar := ⟨.hbm, 0, rfl⟩
abbrev main_v0_scs : Ref sig .scScalar := ⟨.hbm, 3, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S5 : Shape := ⟨1, ![5]⟩
abbrev S10x5 : Shape := ⟨2, ![10, 5]⟩
abbrev S5x4 : Shape := ⟨2, ![5, 4]⟩
abbrev S_ : Shape := ⟨0, ![]⟩
abbrev S1 : Shape := ⟨1, ![1]⟩
abbrev S1x5 : Shape := ⟨2, ![1, 5]⟩

abbrev nBuf : Space → Nat
  | .hbm => 8
  | .vmem => 0
  | .smem => 0
  | _ => 0

abbrev bufTy : (tb : Table) → Fin (tcTables nBuf tb) → BufTy
  | .hbm, ⟨0, _⟩ => ⟨S5, .f32⟩
  | .hbm, ⟨1, _⟩ => ⟨S10x5, .f32⟩
  | .hbm, ⟨2, _⟩ => ⟨S5x4, .f32⟩
  | .hbm, ⟨3, _⟩ => ⟨S_, .i32⟩
  | .hbm, ⟨4, _⟩ => ⟨S1, .i32⟩
  | .hbm, ⟨5, _⟩ => ⟨S10x5, .f32⟩
  | .hbm, ⟨6, _⟩ => ⟨S1x5, .f32⟩
  | .hbm, ⟨7, _⟩ => ⟨S5, .f32⟩
  | _, _ => ⟨S5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.RefValue.lean ====
/-
  What the reference computes. Its @main overwrites row 0 of the history with the factors (a scatter at the one index 0),
  takes row 0 of the result (a slice of shape 1 × 5) and drops the leading axis (a reshape). Here: the composed term that
  its run leaves is the vector of factors, whatever the history held, over any type of elements.
-/
module

public import proofs.«01_k».proof.Proof.Gen.ReferenceIdeal
public import Idealize.ShloMosaic.Lib.Routing.OpsSet

@[expose] public section

namespace Cert.Proof.RefValue

open Cert.ReferenceIdeal Cert.ReferenceIdeal.Gen Idealize.ShloMosaic Idealize.ShloMosaic.Routing

variable {α : Type}

/-- The scatter's index vector, as @main makes it: the one word 0. -/
abbrev rowIdx : IVec S1 32 := broadcastInDim S1 ![] bcast_S_S1 (constantI S_ 32 0#32)

/-- Cell `(0, j)` of the history. -/
def cell (j : S5.Idx) : S10x5.Idx := fun | 0 => ⟨0, by decide⟩ | 1 => ⟨(j 0).val, (j 0).isLt⟩

/-- Entry `j` of the factors lands in cell `(0, j)`. -/
theorem lands : ∀ j : S5.Idx, scatter_S10x5_S1_S5_0_0_0_0.resultIdx? j rowIdx = some (cell j) := by decide +kernel

/-- Two entries land in one cell only if they are one entry. -/
theorem cell_inj {j j' : S5.Idx} (h : cell j = cell j') : j = j' := by
  funext a
  obtain rfl : a = 0 := Subsingleton.elim _ _
  exact Fin.ext (congrArg (fun i : S10x5.Idx => (i 1).val) h)

/-- Entry `j` of a 1 × 5 row without its leading axis, read in the history from row 0 on, is cell `(0, j)`. -/
theorem cell_row (j : S5.Idx) :
    (fun a => ⟨(![0, 0] : Fin 2 → Nat) a + (Shape.reshapeEquiv shapeCasts_S1x5_S5 j (a.cast slices_S10x5_S1x5_0_0.1.symm)).val,
      Nat.lt_of_lt_of_le (Nat.add_lt_add_left (Fin.isLt _) _) (slices_S10x5_S1x5_0_0.2 a)⟩ : S10x5.Idx) = cell j := by
  revert j; decide +kernel

/-- The reference's result is the factors `u`: row 0 of the history `x` after row 0 has been overwritten with them. -/
theorem row_of_update (x : S10x5.Idx → α) (u : S5.Idx → α) :
    shapeCast S5 (extractStridedSlice S1x5 ![0, 0] (Host.scatter scatter_S10x5_S1_S5_0_0_0_0 (fun _ b => b) x rowIdx u) slices_S10x5_S1x5_0_0)
      shapeCasts_S1x5_S5 = u := by
  funext j
  refine (congrArg (Host.scatter scatter_S10x5_S1_S5_0_0_0_0 (fun _ b => b) x rowIdx u) (cell_row j)).trans ?_
  exact scatter_set_hit _ x rowIdx u (cell j) (u j)
    (fun j' h => congrArg u (cell_inj (Option.some.inj ((lands j').symm.trans h)))) j (lands j)

end Cert.Proof.RefValue

end
-- ==== Proof.Setup.lean ====
/-
  What the proof of the run is stated over: the program as the launch theorem reads it, the ghost state, the two arrays
  the call moves, and what the TensorCore and SparseCore 0's sequencer hand each other. Everything is over any `F`, so one
  run serves the program read in bits and the program read over the extended reals.
-/
module

public import proofs.«01_k».proof.Defs
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Delay

open Cert.KernelIdeal Cert.KernelIdeal.Gen
open Idealize.ShloMosaic
open Idealize.ShloMosaic.SparseCore (S)
open Idealize.SL Idealize.SL.RA Idealize.SL.BI
open scoped Idealize.SL.BI
open Idealize.SL.BI.BIBase Idealize.SL.Sem
open Idealize.ShloMosaic.Rounds

variable {F : FTy → Type}

/-! ## The program -/

abbrev Lab : Labels := Pipeline.Sig Λ₀ (Fin 0) fun p => (pcfgs (F := F) p).Adm
/-- The one SparseCore call. -/
abbrev call : SparseCore.Cfg τ sig (Lab (F := F)) 1 := sc (F := F)
/-- The bodies the call dispatches to. -/
abbrev bodies [FloatOps F] : Defs nD τ sig (Elt F) (Lab (F := F)) := Pipeline.defs pcfgs defs₀
abbrev noVar : Variants := Variants.none
abbrev liftVar : Variants := noVar.lift
abbrev rank0 : liftVar.V := Sum.inl none

/-- The four launch semaphores are distinct and unscoped where they must be, and no task's buffer is a shared one. -/
theorem launchFacts : (call (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the launch's handshakes, beside the transfers' counters -/

abbrev Hand : Type := URounds (GSem nD τ sig) ℕ
abbrev Ghost : Type := Hand × Counters

local notation "𝕄" => MT nD τ sig (SparseCore.Cfg.HIx 1) (Elt F) ℕ Ghost ℕ

abbrev handEmb : Emb Hand (MT nD τ sig (SparseCore.Cfg.HIx 1) (Elt F) ℕ Ghost ℕ) := embL

/-! ## The arrays -/

variable (m : (ℓ : Loc nD τ sig) → Buf (Elt F) ℓ)

/-- The current delay factors, the kernel's operand. -/
abbrev inLoc (d : Dev nD) : Loc nD τ sig := (SparseCore.T d).loc main_arg0
/-- The delay history and the spike data: arguments of the function, which the call is not handed. -/
abbrev histLoc (d : Dev nD) : Loc nD τ sig := (SparseCore.T d).loc main_arg1
abbrev dataLoc (d : Dev nD) : Loc nD τ sig := (SparseCore.T d).loc main_arg2
/-- The kernel's result. -/
abbrev outLoc (d : Dev nD) : Loc nD τ sig := (SparseCore.T d).loc main_v0
/-- The delay buffer in SparseCore `c`'s shared vector memory. -/
abbrev bufLoc (d : Dev nD) (c : Fin τ.nSC) : Loc nD τ sig := (S d c).loc cc0_scratch0

/-- What the kernel is to leave in its result: the factors the launch found. -/
abbrev wanted (d : Dev nD) : Buf (Elt F) (outLoc d) := m (inLoc d)

/-- The factors whole, as the launch found them. -/
abbrev inPts (d : Dev nD) : sProp 𝕄 := inLoc d ↦{fullShare} m (inLoc d)
/-- The result's array whole, at `f`. -/
abbrev outPts (d : Dev nD) (f : Buf (Elt F) (outLoc d)) : sProp 𝕄 := outLoc d ↦{fullShare} f

/-- The call hands the sequencer the factors and the result's array at anything, and takes back the factors unchanged and
    the result's array at `wanted`. No task is dispatched. -/
def pay : (call (F := F)).Pay (nD := nD) (Val := Elt F) (Name := ℕ) (U := Ghost) where
  st := fun _ d _ => iprop(inPts m d ∗ ∃ f, outPts d f)
  dn := fun _ d _ => iprop(inPts m d ∗ outPts d (wanted m d))
  go := fun _ _ _ _ => iprop(emp)
  td := fun _ _ _ _ => iprop(emp)
  x := fun _ _ => iprop(emp)

instance pay_storable : (pay (F := F) m).IsStorable where
  st _ d c := by unfold pay; infer_instance
  dn _ d c := by unfold pay; infer_instance
  go _ _ _ _ := by unfold pay; infer_instance
  td _ _ _ _ := by unfold pay; infer_instance

end Cert.Proof.Delay

end
-- ==== Proof.Body.lean ====
/-
  The kernel's body on SparseCore 0's sequencer. It copies the factors into row 0 of the delay buffer in shared vector
  memory and waits, then copies row 0 of the buffer into the result and waits. Here: run from the factors, the result's
  array, the buffer and two transfer semaphores at zero, it leaves the result's array at the factors, the factors as they
  were, and both semaphores at zero again.
-/
module

public import proofs.«01_k».proof.Proof.Setup

@[expose] public section

noncomputable section

namespace Cert.Proof.Delay

open Cert.KernelIdeal Cert.KernelIdeal.Gen
open Idealize.ShloMosaic
open Idealize.ShloMosaic.SparseCore (S)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ Ghost ℕ

/-! ## The body's operands, as the body table passes them -/

local notation "inW" => (Memref.whole Cert.KernelIdeal.main_arg0_scs : Memref Cert.KernelIdeal.sig Kind.scScalar Space.hbm Cert.KernelIdeal.S5 EltTy.f32)
local notation "outW" => (Memref.whole Cert.KernelIdeal.main_v0_scs : Memref Cert.KernelIdeal.sig Kind.scScalar Space.hbm Cert.KernelIdeal.S5 EltTy.f32)
local notation "bufW" => (Memref.whole Cert.KernelIdeal.cc0_scratch0 : Memref Cert.KernelIdeal.sig Kind.scScalar Space.shared Cert.KernelIdeal.S10x5 EltTy.f32)

/-- Row 0 of the delay buffer, as a vector. -/
abbrev rowW : Memref sig .scScalar .shared S5 .f32 :=
  ((bufW).slice (Rect.unit (s := S10x5) ![0, 0] S1x5.size inb_S10x5_S1x5_0_0) (fun _ => rfl)).squeeze S5 squeezes_S1x5_S5

/-- The grid point of SparseCore `c`. -/
def point (c : Fin (grid0.bound 0)) : grid0.Coords := fun | 0 => c | ⟨_ + 1, h⟩ => absurd h (Nat.not_lt.2 (Nat.le_add_left _ _))

/-- SparseCore 0's sequencer. -/
abbrev sq (d : Dev nD) (h : 0 < grid0.bound 0) : Thread nD τ := S d ((⟨0, h⟩ : Fin (grid0.bound 0)).castLE hcore0)

/-- The semaphores of the copy in and of the copy out. -/
abbrev inSem : DmaSem sig := ⟨0, by decide⟩
abbrev outSem : DmaSem sig := ⟨1, by decide⟩

variable (m : (ℓ : Loc nD τ sig) → Buf (Elt F) ℓ) (d : Dev nD)

/-- Both semaphores of SparseCore `c`'s sequencer at zero. -/
abbrev semsZero (c : Fin τ.nSC) : sProp 𝕄 :=
  iprop(semVal (S d c, SemLoc.dma inSem) 0 ∗ semVal (S d c, SemLoc.dma outSem) 0)

/-! ## The sequencer's own storage, opened at what the body names -/

/-- The sequencer's own semaphores at zero: the two, and the rest. -/
theorem ownSems_open (c : Fin τ.nSC) :
    (ownSems0 (S d c) : sProp 𝕄)
      = iprop(semsZero d c ∗ bigSep ((ownCells (S d c)) \ {(S d c, SemLoc.dma inSem), (S d c, SemLoc.dma outSem)}) fun g => semVal g 0) := by
  have own : ∀ s : DmaSem sig, ((S d c, SemLoc.dma s) : GSem nD τ sig) ∈ ownCells (S d c) := fun s =>
    mem_ownCells.mpr ⟨rfl, (show ∀ s : DmaSem sig, (SemLoc.dma s : SemLoc sig).isScoped .scScalar = true by decide) s⟩
  have two : ((S d c, SemLoc.dma inSem) : GSem nD τ sig) ∉ ({(S d c, SemLoc.dma outSem)} : Finset (GSem nD τ sig)) := fun h =>
    absurd (congrArg Prod.snd (Finset.mem_singleton.mp h)) (show (SemLoc.dma inSem : SemLoc sig) ≠ SemLoc.dma outSem by decide)
  unfold SparseCore.Cfg.ownSems0
  rw [SparseCore.bigSep_sdiff_split' (t := {(S d c, SemLoc.dma inSem), (S d c, SemLoc.dma outSem)})
      (Finset.insert_subset (own _) (Finset.singleton_subset_iff.mpr (own _))),
    SparseCore.bigSep_insert' two, bigSep_singleton]

/-- The sequencer's own buffers: the delay buffer at anything, and the rest. -/
theorem ownBufs_open (c : Fin τ.nSC) :
    (ownBufs (S d c) : sProp 𝕄)
      = iprop((∃ f, bufLoc d c ↦{fullShare} f)
          ∗ bigSep ((ownRefs (τ := τ) (.scScalar c)).erase ((Proc.scScalar c).devRef cc0_scratch0)) fun b =>
              iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- Each array held whole, as the sequencer's memref addresses it, is the array held whole. -/
theorem in_spell (c : Fin τ.nSC) (f : Buf (Elt F) (inLoc d)) :
    ((inW).view.loc (S d c) ↦{fullShare} f : sProp 𝕄) = inLoc d ↦{fullShare} f := by
  simp only [Memref.view_whole, View.set_whole]
theorem out_spell (c : Fin τ.nSC) (f : Buf (Elt F) (outLoc d)) :
    ((outW).view.loc (S d c) ↦{fullShare} f : sProp 𝕄) = outLoc d ↦{fullShare} f := by
  simp only [Memref.view_whole, View.set_whole]
theorem buf_spell (c : Fin τ.nSC) (f : Buf (Elt F) (bufLoc d c)) :
    ((bufW).view.loc (S d c) ↦{fullShare} f : sProp 𝕄) = bufLoc d c ↦{fullShare} f := by
  simp only [Memref.view_whole, View.set_whole]

/-! ## What the two copies leave -/

/-- Row 0 of the buffer, once the factors have been written to it, reads back as the factors; written to the result's
    whole array it leaves that array at the factors, whatever the array and the buffer held. -/
theorem through_row (h : 0 < grid0.bound 0)
    (fo : Buf (Elt F) ((outW).view.loc (sq d h))) (fs : Buf (Elt F) ((bufW).view.loc (sq d h))) :
    (outW).view.write (Elt F) fo
      (ReadAs.same.apply ((rowW).view.read (Elt F)
        ((rowW).view.write (Elt F) fs (ReadAs.same.apply ((inW).view.read (Elt F) (m (inLoc d)))) Finset.univ)))
      Finset.univ = wanted m d := by
  rw [ReadAs.apply_same, ReadAs.apply_same, View.read_write_univ]
  exact View.write_whole_univ _ _ _

variable [FloatOps F]

/-! ## The run of the body -/

/-- The body, run from the factors, the result's array, the delay buffer and the two semaphores at zero: the factors come
    back as they were, the result's array at the factors, the buffer at something, both semaphores at zero. -/
theorem body_run (h : 0 < grid0.bound 0) (O : CellTallies nD τ sig (HIx 1)) (W : Waits sig (HIx 1))
    (fo : Buf (Elt F) ((outW).view.loc (sq d h))) (fs : Buf (Elt F) ((bufW).view.loc (sq d h))) :
    (iprop(Transfers.MayWaits (sq d h) (none : HIx 1) O
        ∗ ((inW).view.loc (sq d h) ↦{fullShare} m (inLoc d))
        ∗ ((outW).view.loc (sq d h) ↦{fullShare} fo)
        ∗ ((bufW).view.loc (sq d h) ↦{fullShare} fs)
        ∗ semsZero d (((⟨0, h⟩ : Fin (grid0.bound 0))).castLE hcore0)
        ∗ owes (sq d h) O W) : sProp 𝕄)
      ⊢ wp frame (wpE (defs₀ (F := F)) noVar (sq d h) none) Set.univ
          (cc0__delay_buffer_update (point ⟨0, h⟩) inW (Memref.isWhole_whole _) outW (Memref.isWhole_whole _)
            bufW (Memref.isWhole_whole _) cc0_scoped0 cc0_scoped1)
          fun _ => iprop(((inW).view.loc (sq d h) ↦{fullShare} m (inLoc d))
            ∗ ((outW).view.loc (sq d h) ↦{fullShare} wanted m d)
            ∗ (∃ f, (bufW).view.loc (sq d h) ↦{fullShare} f)
            ∗ semsZero d (((⟨0, h⟩ : Fin (grid0.bound 0))).castLE hcore0)
            ∗ ∃ W', owes (sq d h) O W') := by
  iintro ⟨#Hmw, Hx, Ho, Hb, ⟨Hc0, Hc1⟩, HO⟩
  sl_unfold [cc0__delay_buffer_update]
  sl_exec
  sl_step
  have e : View.write (Elt F) (outW).view fo (body_run.sl.dma0_1 m d h fs) Finset.univ = wanted m d := by
    unfold body_run.sl.dma0_1 body_run.sl.dma0
    exact through_row m d h fo fs
  isplitl [Hx]; · iexact Hx
  isplitl [Ho]; · irw [← e]; iexact Ho
  isplitl [Hb]; · iexists _; iexact Hb
  isplitl [Hc0 Hc1]
  · isplitl [Hc0]; · iexact Hc0
    iexact Hc1
  iexists _; iexact HO

end Cert.Proof.Delay

end
-- ==== Proof.Launch.lean ====
/-
  The whole program's run. The call's body is what the launch theorem asks of SparseCore 0's sequencer, and @main's one
  operation is the call. Here: every weakly fair execution ends without a fault with the result at the factors, the three
  arguments as the launch found them and every semaphore counter at zero, over any `F`.
-/
module

public import proofs.«01_k».proof.Proof.Body

@[expose] public section

noncomputable section

namespace Cert.Proof.Delay

open Cert.KernelIdeal Cert.KernelIdeal.Gen
open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ Ghost ℕ
local notation "inW" => (Memref.whole Cert.KernelIdeal.main_arg0_scs : Memref Cert.KernelIdeal.sig Kind.scScalar Space.hbm Cert.KernelIdeal.S5 EltTy.f32)
local notation "outW" => (Memref.whole Cert.KernelIdeal.main_v0_scs : Memref Cert.KernelIdeal.sig Kind.scScalar Space.hbm Cert.KernelIdeal.S5 EltTy.f32)
local notation "bufW" => (Memref.whole Cert.KernelIdeal.cc0_scratch0 : Memref Cert.KernelIdeal.sig Kind.scScalar Space.shared Cert.KernelIdeal.S10x5 EltTy.f32)

variable (m : (ℓ : Loc nD τ sig) → Buf (Elt F) ℓ) (ρ : Dev nD → PrngReg)

/-! ## The sequencer's part -/

/-- The body on SparseCore 0's sequencer, from what the call hands it and its own storage, to what it hands back and its
    own storage again. -/
theorem body_obl (d : Dev nD) (hF : (call (F := F)).Facts) (h : 0 < grid0.bound 0) (O : CellTallies nD τ sig (HIx 1))
    (W : Waits sig (HIx 1)) (hO : ∀ g, O g none = 0) :
    iprop(levAts (call (F := F)).L (call (F := F)).lev ∗ emp ∗ (inPts m d ∗ ∃ f, outPts d f)
        ∗ scopedBufs (sq d h) ∗ scopedSems0 (sq d h) ∗ owes (sq d h) O W)
      ⊢ wp frame (wpE (defs₀ (F := F)) noVar (sq d h) none) Set.univ
          (cc0__delay_buffer_update (point ⟨0, h⟩) inW (Memref.isWhole_whole _) outW (Memref.isWhole_whole _)
            bufW (Memref.isWhole_whole _) cc0_scoped0 cc0_scoped1)
          fun _ => iprop((inPts m d ∗ outPts d (wanted m d)) ∗ scopedBufs (sq d h) ∗ scopedSems0 (sq d h)
            ∗ ∃ W', ⌜∀ p ∈ W', p ∈ W ∨ p.2 = none ∨ p.2 = some (0 : Fin 1)⌝ ∗ owes (sq d h) O W') := by
  rw [(call (F := F)).scopedBufs_S hF d _, SparseCore.Cfg.scopedSems0_S (Val := Elt F) d _, ownSems_open, ownBufs_open]
  iintro ⟨#Hlv, -, ⟨Hin, %fo, Hout⟩, ⟨⟨⟨%fs, Hbuf⟩, Hbufs⟩, Htb⟩, ⟨⟨Hsem, Hsems⟩, Hts⟩, HO⟩
  ihave Hmw := ((call (F := F)).mayWaits_none (thr := sq d h) hO) $$ Hlv
  ihave Hin := (Entails.of_eq (in_spell (F := F) d _ _).symm) $$ Hin
  ihave Hout := (Entails.of_eq (out_spell (F := F) d _ _).symm) $$ Hout
  ihave Hbuf := (Entails.of_eq (buf_spell (F := F) d _ _).symm) $$ Hbuf
  iapply (wp_wand_r Idealize.ShloMosaic.frame (wpE (defs₀ (F := F)) noVar (sq d h) none) Set.univ)
  isplitl [Hin Hout Hbuf Hsem HO]
  · iapply (body_run m d h O W _ _)
    isplitr; · iexact Hmw
    isplitl [Hin]; · iexact Hin
    isplitl [Hout]; · iexact Hout
    isplitl [Hbuf]; · iexact Hbuf
    isplitl [Hsem]; · iexact Hsem
    iexact HO
  iintro %_ ⟨Hin, Hout, ⟨%g, Hbuf⟩, Hsem, %W', HO⟩
  isplitl [Hin Hout]
  · isplitl [Hin]
    · iapply (Entails.of_eq (in_spell (F := F) d _ _)); iexact Hin
    · iapply (Entails.of_eq (out_spell (F := F) d _ _)); iexact Hout
  isplitl [Hbuf Hbufs Htb]
  · isplitl [Hbuf Hbufs]
    · isplitl [Hbuf]
      · iexists _; iapply (Entails.of_eq (buf_spell (F := F) d _ _)); iexact Hbuf
      · iexact Hbufs
    · iexact Htb
  isplitl [Hsem Hsems Hts]
  · isplitl [Hsem Hsems]
    · isplitl [Hsem] <;> iassumption
    · iexact Hts
  iexists W'
  isplitr
  · ipureintro
    intro p _
    match p.2 with
    | none => exact .inr (.inl rfl)
    | some q => exact .inr (.inr (congrArg some (Subsingleton.elim q 0)))
  · iexact HO

/-- The body table's row for a sequencer is the kernel on that sequencer's coordinates. -/
theorem row_eq (c : Fin τ.nSC) :
    defs₀ (F := F) (.scScalar c) 0 ()
      = SparseCore.onCore hcore0 (fun c => cc0__delay_buffer_update (point c) inW (Memref.isWhole_whole _) outW (Memref.isWhole_whole _)
          bufW (Memref.isWhole_whole _) cc0_scoped0 cc0_scoped1) ⟨⟩ c := rfl

/-- What the launch theorem asks of the sequencer at the call. -/
theorem sequencer : (call (F := F)).ScalarObl (bodies (F := F)) liftVar (pay m) rank0 0 := by
  intro d c O W hO _ _
  simp only [show (pay m).ox = fun _ _ => 0 from rfl, add_zero]
  change _ ⊢ wp _ _ _ (Pipeline.liftProg (defs₀ (F := F) (.scScalar ((call (F := F)).core 0 c)) 0 ())) _
  refine BI.Entails.trans ?_ (Pipeline.wp_liftProg (bodies (F := F)) (Pipeline.defs_kernel pcfgs defs₀) noVar _ Set.univ none _ _)
  have hc : ((call (F := F)).core 0 c).val < grid0.bound 0 := c.isLt
  rw [row_eq]
  simp only [SparseCore.onCore, hc, ↓reduceDIte]
  match c with
  | ⟨0, h⟩ => exact body_obl m d launchFacts h O W hO

/-! ## The launch's ghost state -/

/-- The handshakes' tokens; no counter of a transfer yet. -/
def ghost0 : Ghost := (initOf (call (F := F)).hsCells (call (F := F)).hsToks, 1)

/-- It deals the handshakes theirs, and the call nothing besides. -/
theorem ghost_deal : (ownU (ghost0 (F := F)) : sProp 𝕄)
    ⊢ |={Set.univ}=> iprop(BI.own (handEmb (initOf (call (F := F)).hsCells (call (F := F)).hsToks))
        ∗ (bigSep Finset.univ fun _ : Dev nD => iprop(emp))
        ∗ bigSep Finset.univ fun thr : Thread nD τ => bigSep Finset.univ fun q : Fin 1 => (pay m).x q thr) := by
  have none_own : (bigSep Finset.univ fun thr : Thread nD τ => bigSep Finset.univ fun q : Fin 1 => (pay (F := F) m).x q thr)
      = bigSep Finset.univ fun _ : Thread nD τ => iprop(emp) := bigSep_congr fun _ _ => bigSep_univ_of_subsingleton (0 : Fin 1)
  have nothing : ∀ {I : Type} (s : Finset I), (bigSep s fun _ => iprop(emp)) = (iprop(emp) : sProp 𝕄) := fun s => bigSep_emp_const s
  rw [none_own, nothing, nothing]
  unfold ghost0
  iintro Hu
  ihave H := (ownU_pair (initOf (call (F := F)).hsCells (call (F := F)).hsToks) (1 : Counters)) $$ Hu
  icases H with ⟨Hh, -⟩
  imodintro
  isplitl [Hh]; · iexact Hh
  isplitr <;> iempintro

/-! ## @main -/

/-- The TensorCore's arrays: the three arguments and the result. -/
theorem arrays_eq (d : Dev nD) (W : (b : Ref sig .tc) → Buf (Elt F) ((d.tc : Thread nD τ).loc b)) :
    (unscopedBufs d W : sProp 𝕄)
      = iprop((inLoc d ↦{fullShare} W main_arg0) ∗ (histLoc d ↦{fullShare} W main_arg1) ∗ (dataLoc d ↦{fullShare} W main_arg2)
          ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What the call takes for its one SparseCore, -/
theorem handed (d : Dev nD) :
    (bigSep Finset.univ fun c : Fin ((call (F := F)).nCore 0) => (pay m).st 0 d c) = iprop(inPts m d ∗ ∃ f, outPts d f) :=
  bigSep_univ_of_subsingleton (0 : Fin 1)
/-- and what it gives back. -/
theorem returned (d : Dev nD) :
    (bigSep Finset.univ fun c : Fin ((call (F := F)).nCore 0) => (pay m).dn 0 d c) = iprop(inPts m d ∗ outPts d (wanted m d)) :=
  bigSep_univ_of_subsingleton (0 : Fin 1)

/-- What @main ends with: the arguments as the launch found them, the result at the factors. -/
abbrev final (d : Dev nD) : sProp 𝕄 :=
  iprop(inPts m d ∗ (histLoc d ↦{fullShare} m (histLoc d)) ∗ (dataLoc d ↦{fullShare} m (dataLoc d)) ∗ outPts d (wanted m d))

/-- @main on device `d`'s TensorCore: the call, the two other arguments kept through it. -/
theorem main_run (κ : GSem nD τ sig → ℕ) (d : Dev nD) :
    iprop((call (F := F)).ctx handEmb (pay m) κ ∗ (call (F := F)).tcSt handEmb d 0 ∗ (call (F := F)).tcRes m ρ d ∗ emp)
      ⊢ wp frame (wpE ((call (F := F)).defs (bodies (F := F))) liftVar (SparseCore.T d) none) Set.univ (main d)
          fun _ => iprop((call (F := F)).tcSt handEmb d 1 ∗ final m d ∗ (call (F := F)).tcEnd d) := by
  unfold SparseCore.Cfg.tcRes SparseCore.Cfg.tcEnd
  rw [arrays_eq]
  simp only [main, wp_bind, wp_pure]
  iintro ⟨#Hctx, Hst, ⟨Hb, ⟨Hin, Hhist, Hdata, Hout⟩, Hts, -⟩, -⟩
  iapply ((call (F := F)).wp_run (bodies (F := F)) liftVar (EH := handEmb) (P := pay m) κ d 0) $$ [Hst Hin Hhist Hdata Hout Hb Hts]
  isplitr; · iexact Hctx
  isplitl [Hst]; · iexact Hst
  isplitl [Hin Hout]
  · rw [handed]
    isplitl [Hin]; · iexact Hin
    iexists _; iexact Hout
  iintro ⟨Hst, Hdn⟩
  ihave Hdn := (Entails.of_eq (returned m d)) $$ Hdn
  icases Hdn with ⟨Hin, Hout⟩
  imodintro
  isplitl [Hst]; · iexact Hst
  isplitr [Hb Hts]
  · isplitl [Hin]; · iexact Hin
    isplitl [Hhist]; · iexact Hhist
    isplitl [Hdata]; · iexact Hdata
    iexact Hout
  isplitl [Hb] <;> iassumption

/-! ## The run -/

/-- On device `d`: the result is the factors the launch found, and the arguments are as it found them. -/
def Ends (d : Dev nD) (mem : (ℓ : Loc nD τ sig) → Buf (Elt F) ℓ) : Prop :=
  mem (outLoc d) = wanted m d ∧ mem (inLoc d) = m (inLoc d) ∧ mem (histLoc d) = m (histLoc d) ∧ mem (dataLoc d) = m (dataLoc d)

/-- What @main ends with, read in the machine's memory. -/
theorem final_read (d : Dev nD) (s : Phys nD τ sig (Elt F)) : iprop(final m d ∗ SI s) ⊢ (⌜Ends m d s.mem.mem⌝ : sProp 𝕄) := by
  iintro ⟨⟨Hin, Hhist, Hdata, Hout⟩, HSI⟩
  icombine HSI Hin gives %h0
  icombine HSI Hhist gives %h1
  icombine HSI Hdata gives %h2
  icombine HSI Hout gives %hv
  ipureintro
  exact ⟨funext fun i => hv i (Finset.mem_univ i), funext fun i => h0 i (Finset.mem_univ i),
    funext fun i => h1 i (Finset.mem_univ i), funext fun i => h2 i (Finset.mem_univ i)⟩

/-- The program's run: each device ends as `Ends` says, and every semaphore counter is back at zero. -/
theorem run_main [∀ e, Nonempty (Elt F e)] :
    θ_run (Cert.KernelIdeal.defs (F := F)) (Cert.KernelIdeal.threads (F := F)) ⟨m, fun _ => 0, ρ⟩
      fun r => (∀ c : Dev nD, Ends m c r.2.mem) ∧ r.2.sem = fun _ => 0 :=
  SparseCore.Cfg.θ_run_sc_quiescent (K := call (F := F)) (D := bodies (F := F)) (𝒱 := liftVar) (EH := handEmb) (P := pay m) (A := ∅)
    launchFacts rank0
    (fun q _ => match q with | 0 => sequencer m)
    (fun q hq => match q with | 0 => nomatch hq)
    (fun q hq => match q with | 0 => nomatch hq)
    m ρ main (fun _ => iprop(emp)) (final m) (ghost0 (F := F)) (sep_elim_left.trans (ghost_deal m)) (main_run m ρ)
    (fun d s => Ends m d s.mem.mem) (final_read m) _ (fun _ h hz => ⟨h, hz⟩)

end Cert.Proof.Delay

end
-- ==== Proof.lean ====
/-
  The certificate. The kernel copies the delay factors into row 0 of a delay buffer in shared vector memory and copies that
  row out; the reference overwrites row 0 of the history with the factors and reads the row. Both leave the factors: the
  kernel's side is `Delay.run_main` (Proof/Launch.lean), the reference's `RefValue.row_of_update` (Proof/RefValue.lean)
  on its generated run. Each claim of Defs.lean is read off these two.
-/
module

public import proofs.«01_k».proof.Defs
public import proofs.«01_k».proof.Proof.Gen.Kernel
public import proofs.«01_k».proof.Proof.Gen.KernelIdeal
public import proofs.«01_k».proof.Proof.Gen.Reference.Run
public import proofs.«01_k».proof.Proof.Gen.ReferenceIdeal.Run
public import proofs.«01_k».proof.Proof.RefValue
public import proofs.«01_k».proof.Proof.Launch
public import Idealize.ShloMosaic.Lib.Quiescent

@[expose] public section

noncomputable section

namespace Cert.Proof

open Idealize.ShloMosaic Idealize.SL.Sem

/-! ## The frames: arguments unchanged, every counter back at zero -/

/-- The kernel's, the one run of the program's text read in bits. -/
theorem frame_kernel : Cert.quiescent_Kernel := fun m ρ _ =>
  (θ_run Cert.KernelIdeal.defs _ _).mono (fun _ h => ⟨fun c => (h.1 c).2, h.2⟩) (Delay.run_main (F := Bits) m ρ)

/-- The idealized kernel's, the same run read over the extended reals. -/
theorem frame_kernelIdeal : Cert.quiescent_KernelIdeal := fun m ρ _ =>
  (θ_run Cert.KernelIdeal.defs _ _).mono (fun _ h => ⟨fun c => (h.1 c).2, h.2⟩) (Delay.run_main (F := Ideal) m ρ)

/-- The reference's: its run keeps the arguments, and it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The idealized reference's, likewise. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values: kernel and reference both end with the factors -/

/-- In bits: the kernel's result is the reference's, bit for bit. -/
theorem same_bits : Cert.bitexact_Kernel_Reference := by
  intro m ρ m' ρ' _ agree
  refine ⟨fun c => Delay.wanted (F := Bits) m c,
    (θ_run Cert.KernelIdeal.defs _ _).mono (fun _ h => h.1) (Delay.run_main (F := Bits) m ρ), ?_⟩
  exact (θ_run Cert.Reference.defs _ _).mono
    (fun _ h c => ⟨((h c).1.trans (RefValue.row_of_update _ _)).trans (agree c).1, (h c).2⟩) (Cert.Reference.Value.run (F := Bits) m' ρ')

/-- Over the extended reals: the kernel's result is the reference's, entry by entry. -/
theorem same_reals : Cert.algebraic_KernelIdeal_ReferenceIdeal := by
  intro m ρ m' ρ' _ agree
  refine ⟨fun c => Delay.wanted (F := Ideal) m c,
    (θ_run Cert.KernelIdeal.defs _ _).mono (fun _ h => h.1) (Delay.run_main (F := Ideal) m ρ), ?_⟩
  exact (θ_run Cert.ReferenceIdeal.defs _ _).mono
    (fun _ h c => ⟨((h c).1.trans (RefValue.row_of_update _ _)).trans (agree c).1, (h c).2⟩) (Cert.ReferenceIdeal.Value.run (F := Ideal) m' ρ')

/-- Everything Defs.lean claims. -/
theorem claim : Cert.Claim :=
  ⟨Cert.Kernel.Gen.facts, Cert.KernelIdeal.Gen.facts, Cert.Reference.Gen.facts, Cert.ReferenceIdeal.Gen.facts,
    frame_kernel, frame_kernelIdeal, frame_reference, frame_referenceIdeal, trivial, same_bits, same_reals⟩

end Cert.Proof

end
